-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x768 : Shape := ⟨3, ![32, 1024, 768]⟩
abbrev S256x384 : Shape := ⟨2, ![256, 384]⟩
abbrev S32x384 : Shape := ⟨2, ![32, 384]⟩
abbrev S1x1024x768 : Shape := ⟨3, ![1, 1024, 768]⟩
abbrev S1x32x384 : Shape := ⟨3, ![1, 32, 384]⟩
abbrev S32x32x384 : Shape := ⟨3, ![32, 32, 384]⟩
abbrev S1024x384 : Shape := ⟨2, ![1024, 384]⟩
abbrev S32x1x384 : Shape := ⟨3, ![32, 1, 384]⟩
abbrev S1024x768 : Shape := ⟨2, ![1024, 768]⟩

abbrev nBuf : Space → Nat
  | .hbm => 6
  | .vmem => 4
  | .smem => 0
  | _ => 0

abbrev bufTy : (tb : Table) → Fin (tcTables nBuf tb) → BufTy
  | .hbm, ⟨0, _⟩ => ⟨S32x1024x768, .f32⟩
  | .hbm, ⟨1, _⟩ => ⟨S256x384, .f32⟩
  | .hbm, ⟨2, _⟩ => ⟨S256x384, .f32⟩
  | .hbm, ⟨3, _⟩ => ⟨S32x384, .f32⟩
  | .hbm, ⟨4, _⟩ => ⟨S32x384, .f32⟩
  | .hbm, ⟨5, _⟩ => ⟨S32x1024x768, .f32⟩
  | .local _ .vmem, ⟨0, _⟩ => ⟨S32x384, .f32⟩
  | .local _ .vmem, ⟨1, _⟩ => ⟨S32x384, .f32⟩
  | .local _ .vmem, ⟨2, _⟩ => ⟨S1x1024x768, .f32⟩
  | .local _ .vmem, ⟨3, _⟩ => ⟨S1x1024x768, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x1024x768 : Shape := ⟨3, ![32, 1024, 768]⟩
abbrev S256x384 : Shape := ⟨2, ![256, 384]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x384 : Shape := ⟨2, ![32, 384]⟩
abbrev S1x32x384 : Shape := ⟨3, ![1, 32, 384]⟩
abbrev S1x1x1x32x1x384 : Shape := ⟨6, ![1, 1, 1, 32, 1, 384]⟩
abbrev S32x1x1x32x1x384 : Shape := ⟨6, ![32, 1, 1, 32, 1, 384]⟩
abbrev S32x32x384 : Shape := ⟨3, ![32, 32, 384]⟩
abbrev S32x1x384 : Shape := ⟨3, ![32, 1, 384]⟩
abbrev S1x32x1x1x1x384 : Shape := ⟨6, ![1, 32, 1, 1, 1, 384]⟩
abbrev S1x32x32x1x1x384 : Shape := ⟨6, ![1, 32, 32, 1, 1, 384]⟩
abbrev S32x32x768 : Shape := ⟨3, ![32, 32, 768]⟩
abbrev S1x32x32x768 : Shape := ⟨4, ![1, 32, 32, 768]⟩
abbrev S1x1x1x32x1x32x1x768 : Shape := ⟨8, ![1, 1, 1, 32, 1, 32, 1, 768]⟩
abbrev S32x1x1x32x1x32x1x768 : Shape := ⟨8, ![32, 1, 1, 32, 1, 32, 1, 768]⟩
abbrev S32x32x32x768 : Shape := ⟨4, ![32, 32, 32, 768]⟩

abbrev nBuf : Space → Nat
  | .hbm => 65
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S256x384, .f32⟩
  | .hbm, ⟨2, _⟩ => ⟨S256x384, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x384, .f32⟩
  | .hbm, ⟨24, _⟩ => ⟨S32x384, .i1⟩
  | .hbm, ⟨25, _⟩ => ⟨S_, .f32⟩
  | .hbm, ⟨26, _⟩ => ⟨S32x384, .f32⟩
  | .hbm, ⟨27, _⟩ => ⟨S32x384, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S1x1, .i32⟩
  | .hbm, ⟨41, _⟩ => ⟨S32x1, .i32⟩
  | .hbm, ⟨42, _⟩ => ⟨S32x1, .i1⟩
  | .hbm, ⟨43, _⟩ => ⟨S32x1, .i1⟩
  | .hbm, ⟨44, _⟩ => ⟨S_, .i1⟩
  | .hbm, ⟨45, _⟩ => ⟨S32, .i1⟩
  | .hbm, ⟨46, _⟩ => ⟨S32x384, .f32⟩
  | .hbm, ⟨47, _⟩ => ⟨S32x384, .i1⟩
  | .hbm, ⟨48, _⟩ => ⟨S_, .f32⟩
  | .hbm, ⟨49, _⟩ => ⟨S32x384, .f32⟩
  | .hbm, ⟨50, _⟩ => ⟨S32x384, .f32⟩
  | .hbm, ⟨51, _⟩ => ⟨S1x32x384, .f32⟩
  | .hbm, ⟨52, _⟩ => ⟨S1x1x1x32x1x384, .f32⟩
  | .hbm, ⟨53, _⟩ => ⟨S32x1x1x32x1x384, .f32⟩
  | .hbm, ⟨54, _⟩ => ⟨S32x32x384, .f32⟩
  | .hbm, ⟨55, _⟩ => ⟨S32x1x384, .f32⟩
  | .hbm, ⟨56, _⟩ => ⟨S1x32x1x1x1x384, .f32⟩
  | .hbm, ⟨57, _⟩ => ⟨S1x32x32x1x1x384, .f32⟩
  | .hbm, ⟨58, _⟩ => ⟨S32x32x384, .f32⟩
  | .hbm, ⟨59, _⟩ => ⟨S32x32x768, .f32⟩
  | .hbm, ⟨60, _⟩ => ⟨S1x32x32x768, .f32⟩
  | .hbm, ⟨61, _⟩ => ⟨S1x1x1x32x1x32x1x768, .f32⟩
  | .hbm, ⟨62, _⟩ => ⟨S32x1x1x32x1x32x1x768, .f32⟩
  | .hbm, ⟨63, _⟩ => ⟨S32x32x32x768, .f32⟩
  | .hbm, ⟨64, _⟩ => ⟨S32x1024x768, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩

abbrev nD : Nat := 1
abbrev τ : Topo := Topo.v7x

variable {F : FTy → Type} [FloatOps F]
-- ==== Proof.Embedding.lean ====
/- What the position embedding holds, index by index: the function that both the kernel and the reference are shown
   to compute. -/
module

public import Idealize.ShloMosaic.Lib.Pointwise.Index

@[expose] public section

namespace Cert.Embedding

open Idealize.ShloMosaic

/-- The embedding of batch entry `b`, patch `p`, feature `f`: the patch is at row `p / 32` and column `p % 32` of the
    32 × 32 picture, the first 384 features are the column table's at that column, the last 384 the row table's at
    that row. -/
def pos {α : Type} (row col : (⟨2, ![256, 384]⟩ : Shape).Idx → α) : (⟨3, ![32, 1024, 768]⟩ : Shape).Idx → α := fun i =>
  have h1 : (i 1).val < 1024 := (i 1).isLt
  have h2 : (i 2).val < 768 := (i 2).isLt
  if h : (i 2).val < 384 then col (ix2 (⟨(i 1).val % 32, by omega⟩ : Fin 256) (⟨(i 2).val, h⟩ : Fin 384))
  else row (ix2 (⟨(i 1).val / 32, by omega⟩ : Fin 256) (⟨(i 2).val - 384, by omega⟩ : Fin 384))

end Cert.Embedding
-- ==== Proof.KernelValue.lean ====
/- What the idealized kernel's result array holds after the run: the position embedding of its two tables. -/
module

public import proofs.«01_k».proof.Proof.Embedding
public import proofs.«01_k».proof.Proof.Gen.KernelIdeal.Value
public import Idealize.ShloMosaic.Lib.Pointwise
public import Idealize.ShloMosaic.Lib.Pipeline.ValueKit

@[expose] public section

noncomputable section

namespace Cert.KernelIdeal.Embedding

open Cert.KernelIdeal Cert.KernelIdeal.Gen Cert.Embedding
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The first 32 rows of a table, which the host cuts off before the kernel. -/
abbrev head (x : FVec F S256x384 .f32) : FVec F S32x384 .f32 :=
  extractStridedSlice S32x384 ![0, 0] x slices_S256x384_S32x384_0_0

/-- The first operand of the kernel is the head of the column table. -/
theorem V_v0 (c : Dev nD) : V m c main_v0 = head (m ((c : Thread nD τ).loc main_arg2)) := by
  unfold V hostOps0; after_results

/-- The second operand of the kernel is the head of the row table. -/
theorem V_v1 (c : Dev nD) : V m c main_v1 = head (m ((c : Thread nD τ).loc main_arg1)) := by
  unfold V hostOps0; after_results

/-- Patch `p` of the column part of a block is row `p % 32` of the first operand. -/
theorem part_col (P0 P1 : FVec F S32x384 .f32) (k : S1024x384.Idx) :
    Value.Cat2_0 P0 P1 0 k = P0 (ix2 (⟨(k 0).val % 32, by omega⟩ : Fin 32) (k 1)) := by
  show shapeCast _ _ _ k = _
  pointwise

/-- Patch `p` of the row part of a block is row `p / 32` of the second operand. -/
theorem part_row (P0 P1 : FVec F S32x384 .f32) (k : S1024x384.Idx) :
    Value.Cat2_0 P0 P1 1 k = P1 (ix2 (⟨(k 0).val / 32, by have : (k 0).val < 1024 := (k 0).isLt; omega⟩ : Fin 32) (k 1)) := by
  show shapeCast _ _ _ k = _
  pointwise

/-- The window of the result moves by one batch entry per grid point. -/
theorem index2 : ∀ t : Fin cfg0.N, win0_2.index t = ![(grid0.coords t 0).val, 0, 0] :=
  (by decide +kernel : ∀ t : Fin grid0.N, _)
/-- The windows of the operands stay at their one block. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)

/-- What the body loads from its first operand is the head of the column table, at every grid point. -/
theorem load0 (c : Dev nD) (t : Fin cfg0.N) :
    View.ld (iblk m c 0 t) r0_0 = head (m ((c : Thread nD τ).loc main_arg2)) := by
  refine (View.ld_unit_zero (S := S32x384) (funext fun a => by fin_cases a <;> rfl) inb_S32x384_S32x384_0_0 (iblk m c 0 t)).trans (funext fun j => ?_)
  rw [← V_v0 m c]
  blk_simp [iblk]
  refine congrArg (V m c main_v0) ?_
  blk_ext [index0]

/-- What it loads from its second operand is the head of the row table. -/
theorem load1 (c : Dev nD) (t : Fin cfg0.N) :
    View.ld (iblk m c 1 t) r0_0 = head (m ((c : Thread nD τ).loc main_arg1)) := by
  refine (View.ld_unit_zero (S := S32x384) (funext fun a => by fin_cases a <;> rfl) inb_S32x384_S32x384_0_0 (iblk m c 1 t)).trans (funext fun j => ?_)
  rw [← V_v1 m c]
  blk_simp [iblk]
  refine congrArg (V m c main_v1) ?_
  blk_ext [index1]

/-- The block that the body leaves, read at an index: the embedding of the two tables at the same patch and feature,
    in whichever batch entry. -/
theorem block_eq (row col : FVec F S256x384 .f32) (y : S1x1024x768.Idx) (i : S32x1024x768.Idx)
    (h1 : (i 1).val = (y 1).val) (h2 : (i 2).val = (y 2).val) :
    Value.E2 (head col) (head row) y = pos row col i := by
  have hy1 : (y 1).val < 1024 := (y 1).isLt
  have hy2 : (y 2).val < 768 := (y 2).isLt
  show Value.Cat2_0 _ _ (Value.csel2_0 y) (Value.ix2_0 y) = _
  unfold pos
  by_cases h : (i 2).val < 384
  · have e : Value.csel2_0 y = 0 := Fin.ext (show (y 2).val / 384 = 0 by omega)
    rw [dif_pos h, e, part_col]
    refine congrArg col (funext fun a => Fin.ext ?_)
    match a with
    | ⟨0, _⟩ => show 0 + (y 1).val % 32 = (i 1).val % 32; omega
    | ⟨1, _⟩ => show 0 + (y 2).val % 384 = (i 2).val; omega
  · have e : Value.csel2_0 y = 1 := Fin.ext (show (y 2).val / 384 = 1 by omega)
    rw [dif_neg h, e, part_row]
    refine congrArg row (funext fun a => Fin.ext ?_)
    match a with
    | ⟨0, _⟩ => show 0 + (y 1).val / 32 = (i 1).val / 32; omega
    | ⟨1, _⟩ => show 0 + (y 2).val % 384 = (i 2).val - 384; omega

/-- The result array after the run is the position embedding of the two tables. -/
theorem final (c : Dev nD) : (dats m 0 c).arrAt 2 cfg0.N
    = pos (m ((c : Thread nD τ).loc main_arg1)) (m ((c : Thread nD τ).loc main_arg2)) := by
  refine (dats m 0 c).arrAt_eq_of_covers 2 _ (by decide +kernel) fun t hf y => ?_
  blk_simp
  rw [after0_2]
  unfold out0_2
  rw [Value.canon2_eq, load0, load1]
  refine block_eq _ _ _ _ ?_ ?_
  · blk_simp [index2]
  · blk_simp [index2]

/-- The run of the idealized kernel: its result is the position embedding of its tables, its arguments are unchanged. -/
theorem run : θ_run defs (onTc (τ := τ) (main (F := F))) ⟨m, fun _ => 0, ρ⟩ fun r => ∀ c : Dev nD,
      r.2.mem ((c : Thread nD τ).loc main_v2)
        = pos (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Embedding

end
-- ==== Proof.ReferenceValue.lean ====
/- What the idealized reference's result array holds after the run: the position embedding of its two tables. -/
module

public import proofs.«01_k».proof.Proof.Embedding
public import proofs.«01_k».proof.Proof.Gen.ReferenceIdeal.Run
public import Idealize.ShloMosaic.Lib.Pointwise
public import Idealize.ShloMosaic.Lib.ReduceAll
public import Idealize.ShloMosaic.Lib.Routing.Ops

@[expose] public section

noncomputable section

namespace Cert.ReferenceIdeal.Embedding

open Cert.ReferenceIdeal Cert.ReferenceIdeal.Gen Cert.Embedding
open Idealize.ShloMosaic Idealize.ShloMosaic.TcCoe Idealize.SL.Sem

variable {F : FTy → Type} [FloatOps F]
variable (m : (ℓ : Loc nD τ sig) → Buf (Elt F) ℓ) (ρ : Dev nD → PrngReg)

/-- The row numbers 0 … 31 that the reference takes, after the lowering of `jnp.take` has added 256 to the negative
    ones (none is). -/
abbrev rowNo : IVec S32x1 32 :=
  broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 256#32))) (iotaInDim S32 32 0))

/-- Which row numbers are inside the table: the mask by which `jnp.take` fills the others in. -/
abbrev inside : IVec S32 1 :=
  Host.reduce IntOp.andi (andi (cmpi .sge rowNo (broadcastInDim S32x1 ![] bcast_S_S32x1 (constantI S_ 32 0#32))) (cmpi .sle rowNo (broadcastInDim S32x1 ![0, 1] bcast_S1x1_S32x1_0_1 (broadcastInDim S1x1 ![1] bcast_S1_S1x1_1 (constantI S1 32 255#32))))) (constantI S_ 1 1#1) reducesTo_S32x1_S32_d1 h_S_

/-- `jnp.take(x, jnp.arange(32), axis=0)`: the gathered rows, those outside the table filled in. -/
abbrev take (x : FVec F S256x384 .f32) : FVec F S32x384 .f32 :=
  select (broadcastInDim S32x384 ![0] bcast_S32_S32x384_0 inside) (Host.gather gather_S256x384_S32x1_S32x384_1_0_n_n_0_1_1384 x rowNo) (broadcastInDim S32x384 ![] bcast_S_S32x384 (constant S_ .f32 0x7FC00000#32))

/-- The column part: every row of the picture holds the taken rows of the column table. -/
abbrev colPart (x : FVec F S32x384 .f32) : FVec F S32x32x384 .f32 :=
  shapeCast _ (broadcastInDim S32x1x1x32x1x384 ![0, 1, 2, 3, 4, 5] bcast_S1x1x1x32x1x384_S32x1x1x32x1x384_0_1_2_3_4_5 (shapeCast _ (broadcastInDim S1x32x384 ![1, 2] bcast_S32x384_S1x32x384_1_2 x) shapeCasts_S1x32x384_S1x1x1x32x1x384)) shapeCasts_S32x1x1x32x1x384_S32x32x384

/-- The row part: every column of the picture holds the taken rows of the row table. -/
abbrev rowPart (x : FVec F S32x384 .f32) : FVec F S32x32x384 .f32 :=
  shapeCast _ (broadcastInDim S1x32x32x1x1x384 ![0, 1, 2, 3, 4, 5] bcast_S1x32x1x1x1x384_S1x32x32x1x1x384_0_1_2_3_4_5 (shapeCast _ (broadcastInDim S32x1x384 ![0, 2] bcast_S32x384_S32x1x384_0_2 x) shapeCasts_S32x1x384_S1x32x1x1x1x384)) shapeCasts_S1x32x32x1x1x384_S32x32x384

/-- The picture: the two parts side by side along the features. -/
abbrev picture (a b : FVec F S32x32x384 .f32) : FVec F S32x32x768 .f32 :=
  concatenate S32x32x768 2 [⟨S32x32x384, a⟩, ⟨S32x32x384, b⟩] concatenates_S32x32x384_S32x32x384_S32x32x768_d2

/-- The picture repeated along the batch, its pixels in one axis. -/
abbrev batch (x : FVec F S32x32x768 .f32) : FVec F S32x1024x768 .f32 :=
  shapeCast _ (shapeCast _ (broadcastInDim S32x1x1x32x1x32x1x768 ![0, 1, 2, 3, 4, 5, 6, 7] bcast_S1x1x1x32x1x32x1x768_S32x1x1x32x1x32x1x768_0_1_2_3_4_5_6_7 (shapeCast _ (broadcastInDim S1x32x32x768 ![1, 2, 3] bcast_S32x32x768_S1x32x32x768_1_2_3 x) shapeCasts_S1x32x32x768_S1x1x1x32x1x32x1x768)) shapeCasts_S32x1x1x32x1x32x1x768_S32x32x32x768) shapeCasts_S32x32x32x768_S32x1024x768

/-- Row number `k` is the word `k`: no row number is negative. -/
theorem rowNo_apply (k : S32x1.Idx) : rowNo k = BitVec.ofNat 32 (k 0).val := by
  have key : ∀ n < 32, Scalar.select (IntOp.cmpi .slt (BitVec.ofNat 32 n) 0#32) (BitVec.ofNat 32 n + 256#32) (BitVec.ofNat 32 n)
      = BitVec.ofNat 32 n := by decide
  exact key _ (k 0).isLt

/-- Every row number is inside the table. -/
theorem inside_apply (k : S32.Idx) : inside k = 1#1 := by
  refine Host.reduce_andi_one _ _ _ _ _ rfl fun i => ?_
  have key : ∀ n < 32, IntOp.andi (IntOp.cmpi .sge (BitVec.ofNat 32 n) 0#32) (IntOp.cmpi .sle (BitVec.ofNat 32 n) 255#32) = 1#1 := by
    decide
  show IntOp.andi (IntOp.cmpi .sge (rowNo i) 0#32) (IntOp.cmpi .sle (rowNo i) 255#32) = 1#1
  rw [rowNo_apply]
  exact key _ (i 0).isLt

/-- The taken row `a` is row `a` of the table. -/
theorem take_apply (x : FVec F S256x384 .f32) (a : Fin 32) (f : Fin 384) :
    take x (ix2 a f) = x (ix2 (⟨a.val, by omega⟩ : Fin 256) f) := by
  refine Eq.trans (b := Host.gather gather_S256x384_S32x1_S32x384_1_0_n_n_0_1_1384 x rowNo (ix2 a f)) ?_ ?_
  · show Scalar.select (inside _) _ _ = _
    rw [inside_apply]
    rfl
  · exact Routing.gather_row _ rfl rfl rfl rfl rfl x rowNo a f ⟨a.val, by omega⟩ (rowNo_apply _) (by decide)

/-- The column part at pixel `(a, b)` is taken row `b`. -/
theorem colPart_apply (x : FVec F S32x384 .f32) (a b : Fin 32) (f : Fin 384) : colPart x (ix3 a b f) = x (ix2 b f) := by
  unfold colPart
  pointwise

/-- The row part at pixel `(a, b)` is taken row `a`. -/
theorem rowPart_apply (x : FVec F S32x384 .f32) (a b : Fin 32) (f : Fin 384) : rowPart x (ix3 a b f) = x (ix2 a f) := by
  unfold rowPart
  pointwise

/-- The batch at entry `b`, patch `p` is the picture at pixel `(p / 32, p % 32)`. -/
theorem batch_apply (x : FVec F S32x32x768 .f32) (i : S32x1024x768.Idx) :
    batch x i = x (ix3 (⟨(i 1).val / 32, by have : (i 1).val < 1024 := (i 1).isLt; omega⟩ : Fin 32)
      (⟨(i 1).val % 32, by omega⟩ : Fin 32) (i 2)) := by
  unfold batch
  pointwise

/-- The picture's first 384 features are the column part. -/
theorem picture_left (u v : FVec F S32x32x384 .f32) (a b : Fin 32) (f : Fin 768) (h : f.val < 384) :
    picture u v (ix3 a b f) = u (ix3 a b (⟨f.val, h⟩ : Fin 384)) :=
  concatenate_pair_apply_left 2 u v _ (ix3 a b f) rfl (ix3 a b (⟨f.val, h⟩ : Fin 384)) fun n => by
    match n with
    | ⟨0, _⟩ => rfl
    | ⟨1, _⟩ => rfl
    | ⟨2, _⟩ => rfl

/-- The picture's last 384 features are the row part. -/
theorem picture_right (u v : FVec F S32x32x384 .f32) (a b : Fin 32) (f : Fin 768) (h : ¬f.val < 384) :
    picture u v (ix3 a b f) = v (ix3 a b (⟨f.val - 384, by omega⟩ : Fin 384)) :=
  concatenate_pair_apply_right 2 u v _ (ix3 a b f) rfl rfl (ix3 a b (⟨f.val - 384, by omega⟩ : Fin 384))
    (fun n hn => by
      match n with
      | ⟨0, _⟩ => rfl
      | ⟨1, _⟩ => rfl
      | ⟨2, _⟩ => exact absurd rfl hn)
    (show f.val - 384 + 384 = f.val by omega)

/-- The reference's result is the position embedding of its tables. -/
theorem value (row col : FVec F S256x384 .f32) :
    batch (picture (colPart (take col)) (rowPart (take row))) = pos row col := by
  funext i
  rw [batch_apply]
  unfold pos
  by_cases h : (i 2).val < 384
  · rw [dif_pos h, picture_left _ _ _ _ _ h, colPart_apply, take_apply]
  · rw [dif_neg h, picture_right _ _ _ _ _ h, rowPart_apply, take_apply]

/-- The run of the reference: its result is the position embedding of its tables, its arguments are unchanged. -/
theorem run : θ_run defs (onTc (τ := τ) (main (F := F))) ⟨m, fun _ => 0, ρ⟩ fun r => ∀ c : Dev nD,
      r.2.mem ((c : Thread nD τ).loc main_v17)
        = pos (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (value (m ((c : Thread nD τ).loc main_arg1)) (m ((c : Thread nD τ).loc main_arg2))), (h c).2⟩)
    (Value.run m ρ)

end Cert.ReferenceIdeal.Embedding

end
-- ==== Proof.lean ====
/- The certificate of the position embedding: the three frames, and that the idealized kernel and the idealized
   reference both end with `Cert.Embedding.pos` of the two tables in their result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs without fault, keeps its arguments and leaves its counters at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the idealized reference, which declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Embedding.run (F := Ideal) m ρ)

/-- From equal arguments the idealized kernel and the idealized reference end with the same result: the position
    embedding of the two tables. -/
theorem algebraic : Cert.algebraic_KernelIdeal_ReferenceIdeal := by
  intro m ρ m' ρ' _ hagree
  refine ⟨fun c => Cert.Embedding.pos (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Embedding.run (F := Ideal) m ρ, ?_⟩
  refine (θ_run Cert.ReferenceIdeal.defs _ _).mono (fun _ h c => ⟨(h c).1.trans ?_, (h c).2⟩)
    (Cert.ReferenceIdeal.Embedding.run (F := Ideal) m' ρ')
  rw [(hagree c).2.1, (hagree c).2.2]

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
